-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v1) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S16384x256 : Shape := ⟨2, ![16384, 256]⟩
abbrev S256 : Shape := ⟨1, ![256]⟩
abbrev S16384 : Shape := ⟨1, ![16384]⟩
abbrev S16x257 : Shape := ⟨2, ![16, 257]⟩
abbrev S512 : Shape := ⟨1, ![512]⟩
abbrev S_ : Shape := ⟨0, ![]⟩
abbrev S16 : Shape := ⟨1, ![16]⟩
abbrev S16x256 : Shape := ⟨2, ![16, 256]⟩

abbrev nBuf : Table → Nat
  | .hbm => 3
  | .local .scVector .vmem => 3
  | _ => 0

abbrev bufTy : (tb : Table) → Fin (nBuf tb) → BufTy
  | .hbm, ⟨0, _⟩ => ⟨S16384x256, .f32⟩
  | .hbm, ⟨1, _⟩ => ⟨S256, .i32⟩
  | .hbm, ⟨2, _⟩ => ⟨S16384, .i32⟩
  | .local .scVector .vmem, ⟨0, _⟩ => ⟨S256, .i32⟩
  | .local .scVector .vmem, ⟨1, _⟩ => ⟨S16x257, .f32⟩
  | .local .scVector .vmem, ⟨2, _⟩ => ⟨S512, .i32⟩
  | _, _ => ⟨S16384x256, .f32⟩

abbrev bufScoped : (cs : CoreSpace) → Fin (nBuf (.local .tc cs)) → Bool
  | _, _ => false

abbrev semScoped : Fin 4 → Bool
  | ⟨0, _⟩ => false
  | ⟨1, _⟩ => false
  | ⟨2, _⟩ => false
  | ⟨3, _⟩ => false
  | _ => false

abbrev dmaSemScoped : Fin 3 → Bool
  | ⟨0, _⟩ => false
  | ⟨1, _⟩ => false
  | ⟨2, _⟩ => false
  | _ => false

abbrev sig : RefSig :=
  ofTables nBuf rfl bufTy 4 3 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_arg0_scv : Ref sig .scVector := ⟨.hbm, 0, rfl⟩
abbrev main_arg1_scv : Ref sig .scVector := ⟨.hbm, 1, rfl⟩
abbrev main_v0_scv : Ref sig .scVector := ⟨.hbm, 2, rfl⟩
abbrev cc0_scratch0 : Ref sig .scVector := ⟨.vmem, 0, rfl⟩
abbrev cc0_scratch1 : Ref sig .scVector := ⟨.vmem, 1, rfl⟩
abbrev cc0_scratch2 : Ref sig .scVector := ⟨.vmem, 2, rfl⟩
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![2, 16], ![false, false]⟩

@[reducible] def k0_t1_loop : Scf.Loop 32 :=
  let c0_i32_0 : BitVec 32 := 0#32
  let c32_i32 : BitVec 32 := 32#32
  let v4 : BitVec 32 := Scalar.addi c0_i32_0 c32_i32
  let c1_i32 : BitVec 32 := 1#32
  ⟨c0_i32_0, v4, c1_i32⟩
def k0_off1 (i : grid0.Coords) (k0_t1 : Fin k0_t1_loop.trips) : Fin 2 → Nat :=
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c512_i32 : BitVec 32 := 512#32
  let v2 : BitVec 32 := Scalar.muli v1 c512_i32
  let c0_i32_0 : BitVec 32 := 0#32
  let c1_i32 : BitVec 32 := 1#32
  let arg8 : BitVec 32 := Scf.iv c0_i32_0 c1_i32 k0_t1
  let c16_i32_2 : BitVec 32 := 16#32
  let v5 : BitVec 32 := Scalar.muli arg8 c16_i32_2
  let v6 : BitVec 32 := Scalar.addi v2 v5
  let c0_i32_10_r1 : BitVec 32 := 0#32
  ![v6.toNat, 0]
@[reducible] def k0_t2_loop : Scf.Loop 32 :=
  let c0_i32_4 : BitVec 32 := 0#32
  let c256_i32 : BitVec 32 := 256#32
  let v9 : BitVec 32 := Scalar.addi c0_i32_4 c256_i32
  let c1_i32_5 : BitVec 32 := 1#32
  ⟨c0_i32_4, v9, c1_i32_5⟩

def k0_chk1 (v3 : IVec S16 32) (v15 : IVec S16 32) : Prop :=
  (∀ a x, ((![v3, v15] : Fin 2 → IVec S16 32) a x).toNat < S16x257.size a)
theorem k0_idx1_inb : ∀ (v3 : IVec S16 32) (v15 : IVec S16 32) (k0_hw1 : k0_chk1 v3 v15), ∀ a x, ((![v3, v15] : Fin 2 → IVec S16 32) a x).toNat < S16x257.size a := fun v3 v15 k0_hw1 => k0_hw1

def k0_chk2 (v10_1 : IVec S16 32) : Prop :=
  (∀ a x, ((![v10_1] : Fin 1 → IVec S16 32) a x).toNat < S256.size a)
theorem k0_idx2_inb : ∀ (v10_1 : IVec S16 32) (k0_hw2 : k0_chk2 v10_1), ∀ a x, ((![v10_1] : Fin 1 → IVec S16 32) a x).toNat < S256.size a := fun v10_1 k0_hw2 => k0_hw2
def k0_off2 (k0_t1 : Fin k0_t1_loop.trips) : Fin 1 → Nat :=
  let c0_i32_0 : BitVec 32 := 0#32
  let c1_i32 : BitVec 32 := 1#32
  let arg8 : BitVec 32 := Scf.iv c0_i32_0 c1_i32 k0_t1
  let c16_i32_7 : BitVec 32 := 16#32
  let v12 : BitVec 32 := Scalar.muli arg8 c16_i32_7
  let v13 : Index := Scalar.indexCast v12
  ![v13.toNat]
def k0_off3 (i : grid0.Coords) : Fin 1 → Nat :=
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c512_i32 : BitVec 32 := 512#32
  let v2 : BitVec 32 := Scalar.muli v1 c512_i32
  ![v2.toNat]
abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))
-- ==== ReferenceIdeal.lean ====
abbrev S16384x256 : Shape := ⟨2, ![16384, 256]⟩
abbrev S256 : Shape := ⟨1, ![256]⟩
abbrev S_ : Shape := ⟨0, ![]⟩
abbrev S16384 : Shape := ⟨1, ![16384]⟩
abbrev S16384x1 : Shape := ⟨2, ![16384, 1]⟩
abbrev S1 : Shape := ⟨1, ![1]⟩
abbrev S1x1 : Shape := ⟨2, ![1, 1]⟩

abbrev nBuf : Space → Nat
  | .hbm => 29
  | .vmem => 0
  | .smem => 0
  | _ => 0

abbrev bufTy : (tb : Table) → Fin (tcTables nBuf tb) → BufTy
  | .hbm, ⟨0, _⟩ => ⟨S16384x256, .f32⟩
  | .hbm, ⟨1, _⟩ => ⟨S256, .i32⟩
  | .hbm, ⟨2, _⟩ => ⟨S16384x256, .i32⟩
  | .hbm, ⟨3, _⟩ => ⟨S_, .f32⟩
  | .hbm, ⟨4, _⟩ => ⟨S_, .i32⟩
  | .hbm, ⟨5, _⟩ => ⟨S16384, .f32⟩
  | .hbm, ⟨6, _⟩ => ⟨S16384, .i32⟩
  | .hbm, ⟨7, _⟩ => ⟨S_, .i32⟩
  | .hbm, ⟨8, _⟩ => ⟨S16384, .i32⟩
  | .hbm, ⟨9, _⟩ => ⟨S16384, .i1⟩
  | .hbm, ⟨10, _⟩ => ⟨S_, .i32⟩
  | .hbm, ⟨11, _⟩ => ⟨S16384, .i32⟩
  | .hbm, ⟨12, _⟩ => ⟨S16384, .i32⟩
  | .hbm, ⟨13, _⟩ => ⟨S16384, .i32⟩
  | .hbm, ⟨14, _⟩ => ⟨S16384x1, .i32⟩
  | .hbm, ⟨15, _⟩ => ⟨S1, .i32⟩
  | .hbm, ⟨16, _⟩ => ⟨S_, .i32⟩
  | .hbm, ⟨17, _⟩ => ⟨S16384x1, .i32⟩
  | .hbm, ⟨18, _⟩ => ⟨S16384x1, .i1⟩
  | .hbm, ⟨19, _⟩ => ⟨S1x1, .i32⟩
  | .hbm, ⟨20, _⟩ => ⟨S16384x1, .i32⟩
  | .hbm, ⟨21, _⟩ => ⟨S16384x1, .i1⟩
  | .hbm, ⟨22, _⟩ => ⟨S16384x1, .i1⟩
  | .hbm, ⟨23, _⟩ => ⟨S_, .i1⟩
  | .hbm, ⟨24, _⟩ => ⟨S16384, .i1⟩
  | .hbm, ⟨25, _⟩ => ⟨S16384, .i32⟩
  | .hbm, ⟨26, _⟩ => ⟨S_, .i32⟩
  | .hbm, ⟨27, _⟩ => ⟨S16384, .i32⟩
  | .hbm, ⟨28, _⟩ => ⟨S16384, .i32⟩
  | _, _ => ⟨S16384x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_call0_v0 : Ref sig .tc := ⟨.hbm, 2, rfl⟩
abbrev main_call0_cst : Ref sig .tc := ⟨.hbm, 3, rfl⟩
abbrev main_call0_c : Ref sig .tc := ⟨.hbm, 4, rfl⟩
abbrev main_call0_v1_0 : Ref sig .tc := ⟨.hbm, 5, rfl⟩
abbrev main_v0 : Ref sig .tc := ⟨.hbm, 6, rfl⟩
abbrev main_call1_c : Ref sig .tc := ⟨.hbm, 7, rfl⟩
abbrev main_call1_v0 : Ref sig .tc := ⟨.hbm, 8, rfl⟩
abbrev main_call1_v1 : Ref sig .tc := ⟨.hbm, 9, rfl⟩
abbrev main_call1_c_0 : Ref sig .tc := ⟨.hbm, 10, rfl⟩
abbrev main_call1_v2 : Ref sig .tc := ⟨.hbm, 11, rfl⟩
abbrev main_call1_v3 : Ref sig .tc := ⟨.hbm, 12, rfl⟩
abbrev main_call1_v4 : Ref sig .tc := ⟨.hbm, 13, rfl⟩
abbrev main_call1_v5 : Ref sig .tc := ⟨.hbm, 14, rfl⟩
abbrev main_call1_c_1 : Ref sig .tc := ⟨.hbm, 15, rfl⟩
abbrev main_call1_c_2 : Ref sig .tc := ⟨.hbm, 16, rfl⟩
abbrev main_call1_v6 : Ref sig .tc := ⟨.hbm, 17, rfl⟩
abbrev main_call1_v7 : Ref sig .tc := ⟨.hbm, 18, rfl⟩
abbrev main_call1_v8 : Ref sig .tc := ⟨.hbm, 19, rfl⟩
abbrev main_call1_v9 : Ref sig .tc := ⟨.hbm, 20, rfl⟩
abbrev main_call1_v10 : Ref sig .tc := ⟨.hbm, 21, rfl⟩
abbrev main_call1_v11 : Ref sig .tc := ⟨.hbm, 22, rfl⟩
abbrev main_call1_c_3 : Ref sig .tc := ⟨.hbm, 23, rfl⟩
abbrev main_call1_v12 : Ref sig .tc := ⟨.hbm, 24, rfl⟩
abbrev main_call1_v13 : Ref sig .tc := ⟨.hbm, 25, rfl⟩
abbrev main_call1_c_4 : Ref sig .tc := ⟨.hbm, 26, rfl⟩
abbrev main_call1_v14 : Ref sig .tc := ⟨.hbm, 27, rfl⟩
abbrev main_v1 : Ref sig .tc := ⟨.hbm, 28, rfl⟩

abbrev nD : Nat := 1
abbrev τ : Topo := Topo.v7x

variable {F : FTy → Type} [FloatOps F]
-- ==== Proof.Scan.lean ====
/-
  The plain mathematics of the kernel: the running minimum over one row of the distance table, the place where it was
  found, and the label that stands at this place. Everything is generic in the float instance and names no program, so
  that the kernel's certificate (at both of its instances) and the reference's read the same definitions.
-/
module

public import Idealize.ShloMosaic.PureOps

@[expose] public section

noncomputable section

namespace Cert.Proof.Scan

open Idealize.ShloMosaic

variable {F : FTy → Type} [FloatOps F]

/-- One column of the scan: the value `v` met at column `k` replaces the pair (least value so far, its column) when it is
    strictly less than the least value so far. -/
def step (k : ℕ) (v : F .f32) (p : F .f32 × BitVec 32) : F .f32 × BitVec 32 :=
  (Scalar.select (FloatOps.cmpf .olt v p.1) v p.1, Scalar.select (FloatOps.cmpf .olt v p.1) (BitVec.ofNat 32 k) p.2)

/-- The pair after the first `k` columns of a row, from plus infinity and column 0. -/
def sweep (row : ℕ → F .f32) : ℕ → F .f32 × BitVec 32
  | 0 => (Scalar.ofBits .f32 0x7F800000#32, 0#32)
  | k + 1 => step k (row k) (sweep row k)

/-- The scan reads the columns before `k` only. -/
theorem sweep_congr {r r' : ℕ → F .f32} (k : ℕ) (h : ∀ n < k, r n = r' n) : sweep r k = sweep r' k := by
  induction k with
  | zero => rfl
  | succ k ih => rw [sweep, sweep, ih fun n hn => h n (Nat.lt_succ_of_lt hn), h k (Nat.lt_succ_self k)]

/-- The column that the scan names is one it has read, or column 0 before it has read any. -/
theorem sweep_lt (row : ℕ → F .f32) (k n : ℕ) (hn : n < 2 ^ 32) (hk : k ≤ n) (h0 : 0 < n) : (sweep row k).2.toNat < n := by
  induction k with
  | zero => exact h0
  | succ k ih =>
    have h := ih (Nat.le_of_succ_le hk)
    show (Scalar.select _ (BitVec.ofNat 32 k) (sweep row k).2).toNat < n
    unfold Scalar.select
    split
    · rw [BitVec.toNat_ofNat, Nat.mod_eq_of_lt (by omega)]; omega
    · exact h

/-! ## On the two arrays -/

/-- The distance table's place at row `j`, column `k` (columns counted modulo 256). -/
def place (j : Fin 16384) (k : ℕ) : (⟨2, ![16384, 256]⟩ : Shape).Idx :=
  fun | 0 => j | 1 => ⟨k % 256, Nat.mod_lt k (by decide)⟩ | ⟨_ + 2, h⟩ => absurd h (Nat.not_lt.2 (Nat.le_add_left _ _))

/-- Row `j` of the distance table, a function of the column. -/
def row (x : (⟨2, ![16384, 256]⟩ : Shape).Idx → F .f32) (j : Fin 16384) (k : ℕ) : F .f32 := x (place j k)

/-- The column of row `j`'s first least value. -/
def winner (x : (⟨2, ![16384, 256]⟩ : Shape).Idx → F .f32) (j : Fin 16384) : BitVec 32 := (sweep (row x j) 256).2

/-- A winner is a column. -/
theorem winner_lt (x : (⟨2, ![16384, 256]⟩ : Shape).Idx → F .f32) (j : Fin 16384) : (winner x j).toNat < 256 :=
  sweep_lt _ 256 256 (by decide) le_rfl (by decide)

/-- The label of each row's winner. -/
def answer (x : (⟨2, ![16384, 256]⟩ : Shape).Idx → F .f32) (l : (⟨1, ![256]⟩ : Shape).Idx → BitVec 32) :
    (⟨1, ![16384]⟩ : Shape).Idx → BitVec 32 :=
  fun j => l fun a => Fin.cast (congrArg ![256] (Fin.eq_zero a).symm) (⟨(winner x (j 0)).toNat, winner_lt x (j 0)⟩ : Fin 256)

end Cert.Proof.Scan

end
-- ==== Proof.KernelIdealTile.lean ====
/-
  One vector subcore's task of the kernel: the labels fetched, then thirty-two times sixteen rows of the distance table
  fetched and scanned column by column (`sweep`), the winners' labels stored into the task's result scratch, and at the end
  the scratch written out to the task's block of the result array, which then holds `answer` of the launch memory there.
-/
module

public import proofs.«01_k».proof.Defs
public import proofs.«01_k».proof.Proof.Scan
public import Idealize.ShloMosaic.Lib.SparseCore.Quiescent
public import Idealize.ShloMosaic.Lib.SparseCore.Ops
public import Idealize.ShloMosaic.Lib.StableHlo.Run
public import Idealize.ShloMosaic.Lib.Pipeline.Kit
public import Idealize.ShloMosaic.Lib.Tactic
public import Idealize.ShloMosaic.Lib.WritesUnit
public import proofs.«01_k».proof.Proof.Gen.KernelIdeal
public import proofs.«01_k».proof.Proof.Gen.KernelIdeal.Skeleton

@[expose] public section

noncomputable section

namespace Cert.Proof.KernelIdealTile

open Cert.KernelIdeal Cert.KernelIdeal.Gen

open Idealize.ShloMosaic
open Idealize.ShloMosaic.SparseCore (S V T)
open Idealize.ShloMosaic.SparseCore.Cfg (HIx Pay ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Cert.Proof.Scan

variable {F : FTy → Type}

/-! ## The program as the launch theorem sees it -/

abbrev ΛP : Labels := Pipeline.Sig Λ₀ (Fin 0) fun p => (pcfgs (F := F) p).Adm
abbrev K : SparseCore.Cfg τ sig (ΛP (F := F)) 1 := sc (F := F)
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

abbrev UH : Type := URounds (GSem nD τ sig) ℕ
abbrev UU : Type := UH × Counters

local notation "𝕄" => MT nD τ sig (HIx 1) (Elt F) ℕ UU ℕ

/-- The handshakes' rounds, the left factor of the ghost state; the transfers' counters are the right one. -/
abbrev EH : Emb UH (MT nD τ sig (HIx 1) (Elt F) ℕ UU ℕ) := embL

/-! ## The arrays and the scratch buffers -/

variable (m : (ℓ : Loc nD τ sig) → Buf (Elt F) ℓ)

/-- The distance table, the labels and the result, as the TensorCore names them. -/
abbrev xLoc (d : Dev nD) : Loc nD τ sig := (SparseCore.T d).loc main_arg0
abbrev lLoc (d : Dev nD) : Loc nD τ sig := (SparseCore.T d).loc main_arg1
abbrev oLoc (d : Dev nD) : Loc nD τ sig := (SparseCore.T d).loc main_v0

local notation "xV" => (Memref.whole Cert.KernelIdeal.main_arg0_scv : Memref Cert.KernelIdeal.sig Kind.scVector Space.hbm Cert.KernelIdeal.S16384x256 EltTy.f32)
local notation "lV" => (Memref.whole Cert.KernelIdeal.main_arg1_scv : Memref Cert.KernelIdeal.sig Kind.scVector Space.hbm Cert.KernelIdeal.S256 EltTy.i32)
local notation "oV" => (Memref.whole Cert.KernelIdeal.main_v0_scv : Memref Cert.KernelIdeal.sig Kind.scVector Space.hbm Cert.KernelIdeal.S16384 EltTy.i32)
local notation "sV" => (Memref.whole Cert.KernelIdeal.cc0_scratch0 : Memref Cert.KernelIdeal.sig Kind.scVector Space.vmem Cert.KernelIdeal.S256 EltTy.i32)
local notation "tV" => (Memref.whole Cert.KernelIdeal.cc0_scratch1 : Memref Cert.KernelIdeal.sig Kind.scVector Space.vmem Cert.KernelIdeal.S16x257 EltTy.f32)
local notation "wV" => (Memref.whole Cert.KernelIdeal.cc0_scratch2 : Memref Cert.KernelIdeal.sig Kind.scVector Space.vmem Cert.KernelIdeal.S512 EltTy.i32)

/-- Sixteen tasks on each of two SparseCores make thirty-two. -/
theorem task_lt {c i : ℕ} (hc : c < 2) (hi : i < 16) : 16 * c + i < 32 := by omega
/-- The number of a task, from its SparseCore's and its subcore's. -/
abbrev task (c : Fin 2) (i : Fin 16) : Fin 32 := ⟨16 * c.val + i.val, task_lt c.isLt i.isLt⟩

/-- Thirty-two divides the result's length. -/
theorem odiv : 32 ∣ S16384.size 0 := ⟨512, rfl⟩
/-- Task `w`'s block of the result: places `512 * w` to `512 * w + 511`. -/
abbrev oBlock (w : Fin 32) : Rect S16384 := Rect.part (s := S16384) (a₀ := 0) odiv w
abbrev oSet (w : Fin 32) : Finset S16384.Idx := ((oV).view.slice (oBlock w)).set

/-- The share of the distance table, and of the labels, that task `w` reads by. -/
abbrev rd (w : Fin 32) : PosShare TreeShare := Transfers.shareTok fullShare 32 w

variable [FloatOps F]

/-- What the kernel leaves in the result, from the launch memory. -/
abbrev goal (d : Dev nD) : Buf (Elt F) (oLoc d) := answer (F := F) (m (xLoc d)) (m (lLoc d))

abbrev xSh (d : Dev nD) (w : Fin 32) : sProp 𝕄 := xLoc d ↦{rd w} m (xLoc d)
abbrev lSh (d : Dev nD) (w : Fin 32) : sProp 𝕄 := lLoc d ↦{rd w} m (lLoc d)
abbrev oBl (d : Dev nD) (w : Fin 32) (f : Buf (Elt F) (oLoc d)) : sProp 𝕄 := oLoc d ↦[oSet w]{fullShare} f

/-! ## One task -/

section Tile

variable (d : Dev nD) (L : grid0.Coords)

abbrev cV (L : grid0.Coords) : Fin τ.nSC := (L 0).castLE hcore0
abbrev jV (L : grid0.Coords) : Fin τ.nSub := (L 1).castLE hsub0
/-- The task's thread. -/
local notation "me" => V d (cV L) (jV L)
omit [FloatOps F] in
/-- The call runs on two SparseCores. -/
theorem bound_zero : grid0.bound 0 = 2 := rfl
omit [FloatOps F] in
/-- The call runs on sixteen subcores of each. -/
theorem bound_one : grid0.bound 1 = 16 := rfl
abbrev wL (L : grid0.Coords) : Fin 32 := task (Fin.cast bound_zero (L 0)) (Fin.cast bound_one (L 1))

/-- The task's block of the result, as the task addresses it. -/
abbrev oBlkK (L : grid0.Coords) : Memref sig .scVector .hbm S512 .i32 :=
  (oV).slice (Rect.unit (s := S16384) (k0_off3 L) S512.size (k0_off3_inb L)) (fun _ => rfl)

omit [FloatOps F] in
/-- The box that the task writes out is its block. -/
theorem oRect_eq : Rect.unit (s := S16384) (k0_off3 L) S512.size (k0_off3_inb L) = oBlock (wL L) := by
  unfold oBlock Rect.part Rect.block
  congr 1 <;> funext a
  · rw [k0_off3_eq]
    match a with
    | 0 =>
      simp [Shape.partIx, Shape.partSize]
      change 8192 * (L 0).val + 512 * (L 1).val = (16 * (L 0).val + (L 1).val) * 512
      omega
  · match a with
    | 0 => simp [Shape.partSize]

omit [FloatOps F] in
/-- The places that the task writes are its block's. -/
theorem set_oBlkK : (oBlkK L).view.set = oSet (wL L) := by
  show ((oV).view.slice (Rect.unit (s := S16384) (k0_off3 L) S512.size (k0_off3_inb L))).set = ((oV).view.slice (oBlock (wL L))).set
  exact oRect_eq L ▸ rfl

omit [FloatOps F] in
/-- The block of the result, as the task addresses it and as the TensorCore does. -/
theorem pts_oBlkK (f : Buf (Elt F) (oLoc d)) :
    ((oBlkK L).view.loc me ↦[(oBlkK L).view.set]{fullShare} f : sProp 𝕄) = oLoc d ↦[oSet (wL L)]{fullShare} f := by
  rw [set_oBlkK]

abbrev cAcell (d : Dev nD) (c : Fin τ.nSC) (i : Fin τ.nSub) : GSem nD τ sig := (V d c i, .dma cc0_scoped0.sem)
abbrev cBcell (d : Dev nD) (c : Fin τ.nSC) (i : Fin τ.nSub) : GSem nD τ sig := (V d c i, .dma cc0_scoped1.sem)
abbrev cCcell (d : Dev nD) (c : Fin τ.nSC) (i : Fin τ.nSub) : GSem nD τ sig := (V d c i, .dma cc0_scoped2.sem)

omit [FloatOps F] in
/-- The three transfers' semaphores are among the subcore's own. -/
theorem ownSems0_V :
    (ownSems0 me : sProp 𝕄)
      = iprop(semVal (cAcell d (cV L) (jV L)) 0 ∗ semVal (cBcell d (cV L) (jV L)) 0 ∗ semVal (cCcell d (cV L) (jV L)) 0
          ∗ bigSep ((((ownCells me).erase (cAcell d (cV L) (jV L))).erase (cBcell d (cV L) (jV L))).erase (cCcell d (cV L) (jV L))) fun g => semVal g 0) := by
  unfold SparseCore.Cfg.ownSems0
  rw [SparseCore.bigSep_erase' ((mem_ownCells (g := cAcell d (cV L) (jV L))).mpr ⟨rfl, by
      show (SemLoc.dma cc0_scoped0.sem : SemLoc sig).isScoped .scVector = true; decide⟩),
    SparseCore.bigSep_erase' (Finset.mem_erase.mpr ⟨by simp [cAcell, cBcell]; decide, (mem_ownCells (g := cBcell d (cV L) (jV L))).mpr ⟨rfl, by
      show (SemLoc.dma cc0_scoped1.sem : SemLoc sig).isScoped .scVector = true; decide⟩⟩),
    SparseCore.bigSep_erase' (Finset.mem_erase.mpr ⟨by simp [cBcell, cCcell]; decide, Finset.mem_erase.mpr ⟨by simp [cAcell, cCcell]; decide,
      (mem_ownCells (g := cCcell d (cV L) (jV L))).mpr ⟨rfl, by show (SemLoc.dma cc0_scoped2.sem : SemLoc sig).isScoped .scVector = true; decide⟩⟩⟩)]

/-- A scratch buffer of the subcore, as the memory names it. -/
abbrev scr (b : Ref sig .scVector) : DevRef τ sig := (Proc.scVector (cV L) (jV L)).devRef b

omit [FloatOps F] in
/-- The three scratch buffers are among the subcore's own: they are them, at some contents, and the rest. -/
theorem ownBufs_V :
    (ownBufs me : sProp 𝕄)
      = iprop((∃ f, (me).loc cc0_scratch0 ↦{fullShare} f) ∗ (∃ f, (me).loc cc0_scratch1 ↦{fullShare} f) ∗ (∃ f, (me).loc cc0_scratch2 ↦{fullShare} f)
          ∗ bigSep ((((ownRefs (τ := τ) (.scVector (cV L) (jV L))).erase (scr L cc0_scratch0)).erase (scr L cc0_scratch1)).erase (scr L cc0_scratch2))
              fun b => iprop(∃ f, ((d, b) : Loc nD τ sig) ↦{fullShare} f)) := by
  have mem (b : Ref sig .scVector) (h : (scr L b).owner = .proc (.scVector (cV L) (jV L))) : scr L b ∈ ownRefs (τ := τ) (.scVector (cV L) (jV L)) :=
    SparseCore.Cfg.mem_ownRefs_of_owner (p := Proc.scVector (cV L) (jV L)) (b := scr L b) h
  have ne {b b' : Ref sig .scVector} (h : b ≠ b') : scr L b ≠ scr L b' := fun e => h (Proc.devRef_injective _ e)
  unfold SparseCore.Cfg.ownBufs
  refine (SparseCore.bigSep_erase' (mem cc0_scratch0 rfl)).trans ?_
  rw [SparseCore.bigSep_erase' (Finset.mem_erase.mpr ⟨ne (show (cc0_scratch1 : Ref sig .scVector) ≠ cc0_scratch0 by decide), mem cc0_scratch1 rfl⟩),
    SparseCore.bigSep_erase' (Finset.mem_erase.mpr ⟨ne (show (cc0_scratch2 : Ref sig .scVector) ≠ cc0_scratch1 by decide),
      Finset.mem_erase.mpr ⟨ne (show (cc0_scratch2 : Ref sig .scVector) ≠ cc0_scratch0 by decide), mem cc0_scratch2 rfl⟩⟩)]

/-! ### The values -/

/-- The lanes' numbers. -/
abbrev lanes : IVec S16 32 := iota .scVector S16 32 [0] iota_S16_d0_w32_scVector

omit [FloatOps F] in
/-- Lane `y`'s number is `y`. -/
theorem lanes_toNat (y : S16.Idx) : (lanes y).toNat = (y 0).val := by
  show (BitVec.ofNat 32 (0 * 16 + (y 0).val)).toNat = _
  have := (y 0).isLt
  rw [BitVec.toNat_ofNat, Nat.mod_eq_of_lt (by have : (y 0).val < 16 := (y 0).isLt; omega)]; omega

/-- The column's number at trip `k`, at every lane. -/
abbrev column (k : ℕ) : IVec S16 32 := broadcast S16 (Scf.iv 0#32 1#32 k)

omit [FloatOps F] in
/-- The loop's counter at trip `k` is `k`. -/
theorem iv_eq (k : ℕ) : Scf.iv 0#32 1#32 k = BitVec.ofNat 32 k := by simp [Scf.iv]

omit [FloatOps F] in
/-- Every lane of the column's vector reads the column's number. -/
theorem column_toNat {k : ℕ} (hk : k < 256) (y : S16.Idx) : (column k y).toNat = k := by
  show (Scf.iv 0#32 1#32 k).toNat = k
  rw [iv_eq, BitVec.toNat_ofNat, Nat.mod_eq_of_lt (by omega)]

omit [FloatOps F] in
/-- The lanes' numbers and a column name a place of the row scratch. -/
theorem chk1 {k : ℕ} (hk : k < 256) : k0_chk1 lanes (column k) := by
  intro a x
  match a with
  | 0 => show (lanes x).toNat < 16; rw [lanes_toNat]; exact (x 0).isLt
  | 1 => show (column k x).toNat < 257; rw [column_toNat hk]; omega

/-- The place of the row scratch at row `y`, column `k`. -/
def spot (y : S16.Idx) (k : ℕ) : S16x257.Idx :=
  fun | 0 => y 0 | 1 => ⟨k % 256, Nat.lt_succ_of_lt (Nat.mod_lt k (by decide))⟩ | ⟨_ + 2, h⟩ => absurd h (Nat.not_lt.2 (Nat.le_add_left _ _))

omit [FloatOps F] in
/-- The place that lane `y` loads at column `k` is row `y`, column `k` of the row scratch. -/
theorem idxAt_spot {k : ℕ} (hk : k < 256) (h) (y : S16.Idx) : idxAt (s := S16x257) ![lanes, column k] h y = spot y k := by
  funext a
  match a with
  | 0 => exact Fin.ext (lanes_toNat y)
  | 1 => exact Fin.ext ((column_toNat hk y).trans (Nat.mod_eq_of_lt hk).symm)

/-- The sixteen lanes' state after `k` columns of the rows that the scratch holds. -/
def Scanned (f : Vec F S16x257 .f32) (k : ℕ) (s : FVec F S16 .f32 × IVec S16 32) : Prop :=
  ∀ y : S16.Idx, (s.1 y, s.2 y) = sweep (fun n => f (spot y n)) k

/-- Before the first column the lanes hold plus infinity and column 0. -/
theorem scanned_zero (f : Vec F S16x257 .f32) : Scanned f 0 (k0_pay1 (F := F), k0_pay2) := fun _ => rfl

/-- One trip of the inner loop is one column of the scan. -/
theorem scanned_succ {f : Vec F S16x257 .f32} {k : ℕ} (hk : k < 256) {s : FVec F S16 .f32 × IVec S16 32} (hs : Scanned f k s) (h) :
    Scanned f (k + 1) (k0_pay4 s.1 (loadIdx f ![lanes, column k] h), k0_pay5 s.1 s.2 (column k) (loadIdx f ![lanes, column k] h)) := by
  intro y
  rw [sweep, ← hs y]
  have e : loadIdx f ![lanes, column k] h y = f (spot y k) := congrArg f (idxAt_spot hk h y)
  have c : column k y = BitVec.ofNat 32 k := iv_eq k
  show (Scalar.select (FloatOps.cmpf .olt (loadIdx f ![lanes, column k] h y) (s.1 y)) (loadIdx f ![lanes, column k] h y) (s.1 y),
      Scalar.select (FloatOps.cmpf .olt (loadIdx f ![lanes, column k] h y) (s.1 y)) (column k y) (s.2 y)) = _
  rw [e, c]; rfl

/-! ### The loops' invariants -/

/-- The distance table's rows that trip `t` fetches, and the part of the row scratch that they land in. -/
abbrev xRowsK (L : grid0.Coords) (t : Fin k0_t1_loop.trips) : Memref sig .scVector .hbm S16x256 .f32 :=
  (xV).slice (Rect.unit (s := S16384x256) (k0_off1 L t) S16x256.size (k0_off1_inb L t)) (fun _ => rfl)
abbrev tRowsK : Memref sig .scVector .vmem S16x256 .f32 :=
  (tV).slice (Rect.unit (s := S16x257) ![0, 0] S16x256.size inb_S16x257_S16x256_0_0) (fun _ => rfl)

omit [FloatOps F] in
/-- A place of the task's block is a place of the result. -/
theorem place_lt (L : grid0.Coords) {n : ℕ} (h : n < 512) : 8192 * (L 0).val + 512 * (L 1).val + n < 16384 := by
  have h0 : (L 0).val < 2 := (L 0).isLt
  have h1 : (L 1).val < 16 := (L 1).isLt
  omega

/-- Row number `n` of the task's block, in the distance table. -/
def outRow (L : grid0.Coords) (n : ℕ) (h : n < 512) : Fin 16384 := ⟨8192 * (L 0).val + 512 * (L 1).val + n, place_lt L h⟩
/-- Place number `n` of the task's block, in the result. -/
def outPlace (L : grid0.Coords) (n : ℕ) (h : n < 512) : S16384.Idx :=
  fun | 0 => outRow L n h | ⟨_ + 1, h⟩ => absurd h (Nat.not_lt.2 (Nat.le_add_left _ _))

/-- The task's answers at its first `n` places. -/
def Answered (n : ℕ) (g : S512.Idx → BitVec 32) : Prop :=
  ∀ j : S512.Idx, (j 0).val < n → g j = goal m d (outPlace L (j 0).val (j 0).isLt)

/-- The outer loop makes thirty-two trips. -/
theorem t1_trips : k0_t1_loop.trips = 32 := by decide
/-- The inner loop makes one trip a column. -/
theorem t2_trips : k0_t2_loop.trips = 256 := by decide

omit [FloatOps F] in
/-- Lane `y` of trip `t` answers a place of the task's block. -/
theorem trip_lt (t : Fin k0_t1_loop.trips) (y : S16.Idx) : 16 * t.val + (y 0).val < 512 := by
  have h : t.val < 32 := Nat.lt_of_lt_of_eq t.isLt t1_trips
  have hy : (y 0).val < 16 := (y 0).isLt
  omega

omit [FloatOps F] in
/-- Where a box's element lies, axis by axis. -/
theorem unit_val {s : Shape} (off size : Fin s.rank → ℕ) (inb) (z : (Rect.unit off size inb).shape.Idx) (a : Fin s.rank) :
    ((Rect.unit off size inb).emb z a).val = off a + (z a).val := by
  rw [Rect.emb_apply]; exact congrArg _ (Nat.one_mul _)

/-- Place (`y`, `n`) of a fetched block of sixteen rows. -/
def inBlock (y : S16.Idx) (n : ℕ) : S16x256.Idx :=
  fun | 0 => y 0 | 1 => ⟨n % 256, Nat.mod_lt n (by decide)⟩ | ⟨_ + 2, h⟩ => absurd h (Nat.not_lt.2 (Nat.le_add_left _ _))

omit [FloatOps F] in
/-- A place of the fetched block lands at the same row and column of the row scratch. -/
theorem spot_val (y : S16.Idx) (n : ℕ) (a : Fin S16x257.rank) :
    (spot y n a).val = (![0, 0] : Fin 2 → ℕ) a + (inBlock y n a).val := by
  match a with
  | 0 => exact (Nat.zero_add _).symm
  | 1 => exact (Nat.zero_add _).symm

omit [FloatOps F] in
/-- Row `y` of the block that trip `t` fetches is the table's row number `16 * t + y` of the task's block. -/
theorem place_eq (t : Fin k0_t1_loop.trips) (y : S16.Idx) (n : ℕ) :
    (Rect.unit (s := S16384x256) (k0_off1 L t) S16x256.size (k0_off1_inb L t)).emb (inBlock y n)
      = place (outRow L (16 * t.val + (y 0).val) (trip_lt t y)) n := by
  funext a; refine Fin.ext ?_
  rw [unit_val, congrFun (k0_off1_eq L t) a]
  match a with
  | 0 => exact Nat.add_assoc _ _ _
  | 1 => exact Nat.zero_add _

/-- What trip `t`'s fetch leaves in the row scratch: at row `y` the table's row at place `16 * t + y` of the task's block. -/
theorem landed (g : Buf (Elt F) (xLoc d)) (f : Buf (Elt F) ((tV).view.loc me)) (t : Fin k0_t1_loop.trips) (y : S16.Idx) (n : ℕ) :
    (tV).view.writes (Elt F) f [⟨Rect.unit (s := S16x257) ![0, 0] S16x256.size inb_S16x257_S16x256_0_0, (xRowsK L t).view.read (Elt F) g⟩] (spot y n)
      = row (F := F) g (outRow L (16 * t.val + (y 0).val) (trip_lt t y)) n := by
  have hw := View.read_writes_cons_unit_of_mem (tV).view f inb_S16x257_S16x256_0_0 ((xRowsK L t).view.read (Elt F) g) [] (spot y n) (inBlock y n) rfl
    (spot_val y n)
  have hr : (xRowsK L t).view.read (Elt F) g (inBlock y n)
      = g ((Rect.unit (s := S16384x256) (k0_off1 L t) S16x256.size (k0_off1_inb L t)).emb (inBlock y n)) := rfl
  rw [place_eq] at hr
  exact hw.trans hr

omit [FloatOps F] in
/-- Owning the row scratch whole is owning what a load of it reads. -/
theorem pts_tV_access (f : Buf (Elt F) ((tV).view.loc me)) :
    ((((tV).access (.whole S16x257)).loc me ↦[Finset.univ]{fullShare} f : sProp 𝕄)) = ((tV).view.loc me ↦{fullShare} f) := rfl
omit [FloatOps F] in
/-- Owning the labels' scratch whole is owning what a load of it reads. -/
theorem pts_sV_access (f : Buf (Elt F) ((sV).view.loc me)) :
    ((((sV).access (.whole S256)).loc me ↦[Finset.univ]{fullShare} f : sProp 𝕄)) = ((sV).view.loc me ↦{fullShare} f) := rfl

/-- After a whole row every lane's column number names a label. -/
theorem chk2 {f : Vec F S16x257 .f32} {b : FVec F S16 .f32} {i : IVec S16 32} (hs : Scanned f 256 (b, i)) : k0_chk2 i := by
  intro a x
  match a with
  | 0 =>
    show (i x).toNat < 256
    rw [show i x = (sweep (fun n => f (spot x n)) 256).2 from congrArg Prod.snd (hs x)]
    exact sweep_lt _ 256 256 (by decide) le_rfl (by decide)

/-- The label looked up at a lane's column, after trip `t`'s rows were scanned, is the answer of that lane's row. -/
theorem looked_up (t : Fin k0_t1_loop.trips) {f : Vec F S16x257 .f32}
    (hf : ∀ (y : S16.Idx) (n : ℕ), f (spot y n) = row (F := F) (m (xLoc d)) (outRow L (16 * t.val + (y 0).val) (trip_lt t y)) n)
    {b : FVec F S16 .f32} {i : IVec S16 32} (hs : Scanned f 256 (b, i)) (y : S16.Idx) (h) :
    loadIdx (s := S256) (F := F) (e := .i32) (m (lLoc d)) ![i] h y = goal m d (outPlace L (16 * t.val + (y 0).val) (trip_lt t y)) := by
  have e : i y = winner (F := F) (m (xLoc d)) (outRow L (16 * t.val + (y 0).val) (trip_lt t y)) :=
    (congrArg Prod.snd (hs y)).trans (congrArg Prod.snd (sweep_congr 256 fun n _ => hf y n))
  refine congrArg (m (lLoc d)) (funext fun a => ?_)
  match a with
  | 0 =>
    have e' := congrArg BitVec.toNat e
    exact Fin.ext e'

omit [FloatOps F] in
/-- A place of trip `t` that no earlier trip answered belongs to one of its sixteen lanes. -/
theorem sixteen_lt (t : Fin k0_t1_loop.trips) {n : ℕ} (h : n < 16 * (t.val + 1)) (h' : ¬ n < 16 * t.val) : n - 16 * t.val < 16 := by omega

/-- The answers stored over places `16 * t` to `16 * t + 15` extend those before. -/
theorem answered_succ (t : Fin k0_t1_loop.trips) {g : S512.Idx → BitVec 32} (hg : Answered m d L (16 * t.val) g) (w : S16.Idx → BitVec 32)
    (hw : ∀ y : S16.Idx, w y = goal m d (outPlace L (16 * t.val + (y 0).val) (trip_lt t y))) :
    Answered m d L (16 * (t.val + 1))
      ((wV).view.writes (Elt F) g [⟨Rect.unit (s := S512) (k0_off2 t) S16.size (k0_off2_inb t), w⟩]) := by
  intro j hj
  by_cases h : (j 0).val < 16 * t.val
  · exact (View.read_writes_cons_unit_of_not_mem (Val := Elt F) (wV).view g (k0_off2_inb t) w [] j (k0_off2_eq t) 0 (.inl h)).trans (hg j h)
  · refine (View.read_writes_cons_unit_of_mem (Val := Elt F) (wV).view g (k0_off2_inb t) w [] j
      (fun | 0 => ⟨(j 0).val - 16 * t.val, sixteen_lt t hj h⟩ | ⟨_ + 1, h⟩ => absurd h (Nat.not_lt.2 (Nat.le_add_left _ _))) (k0_off2_eq t) ?_).trans
        ((hw _).trans ?_)
    · intro a
      match a with
      | 0 => exact (Nat.add_sub_cancel' (Nat.le_of_not_lt h)).symm
    · refine congrArg (goal m d) (funext fun a => ?_)
      match a with
      | 0 => exact Fin.ext (congrArg (8192 * (L 0).val + 512 * (L 1).val + ·) (Nat.add_sub_cancel' (Nat.le_of_not_lt h)))

/-- When every place of the task is answered, its block written out from the result scratch holds the answers. -/
theorem block_done {g : S512.Idx → BitVec 32} (hg : Answered m d L 512 g) :
    ((oBlkK L).view.loc me ↦[(oBlkK L).view.set]{fullShare}
        (oBlkK L).view.writes (Elt F) (m (oLoc d)) [⟨Rect.whole S512, (wV).view.read (Elt F) g⟩] : sProp 𝕄)
      ⊢ oBl d (wL L) (goal m d) := by
  refine (Entails.of_eq (pointsTo_congr fun j hj => ?_)).trans (Entails.of_eq (pts_oBlkK (F := F) d L (goal m d)))
  obtain ⟨x, -, rfl⟩ := Finset.mem_map.mp hj
  have hw := View.read_writes_cons_emb (Val := Elt F) (oBlkK L).view (m (oLoc d)) (Rect.whole S512) ((wV).view.read (Elt F) g) [] x
  rw [Rect.emb_whole_apply] at hw
  refine hw.trans ((hg x (x 0).isLt).trans (congrArg (goal m d) (funext fun a => Fin.ext ?_)))
  have e : ((oBlkK L).view.emb x a).val = (k0_off3 L) a + (x a).val := unit_val (s := S16384) (k0_off3 L) S512.size (k0_off3_inb L) x a
  rw [e, congrFun (k0_off3_eq L) a]
  match a with
  | 0 => rfl

/-- The scan's invariant: the row scratch at its contents, the lanes' state the scan's after `k` columns. -/
def inInv (f : Buf (Elt F) ((me).loc cc0_scratch1)) (k : ℕ) (s : FVec F S16 .f32 × IVec S16 32) : sProp 𝕄 :=
  iprop(((tV).view.loc me ↦{fullShare} f) ∗ ⌜Scanned f k s⌝)

/-- The outer loop's invariant: the table by the task's share, the labels in their scratch, the row scratch at whatever it
    holds, the result scratch answered up to row `16 * t`, the fetch's semaphore at zero and the thread's waits. -/
def outInv (O : CellTallies nD τ sig (HIx 1)) (W : Waits sig (HIx 1)) (t : ℕ) (_ : Unit) : sProp 𝕄 :=
  iprop(Transfers.MayWaits me (default : HIx 1) O
    ∗ ((xV).view.loc me ↦{rd (wL L)} m (xLoc d))
    ∗ ((sV).view.loc me ↦{fullShare} m (lLoc d))
    ∗ (∃ f, (tV).view.loc me ↦{fullShare} f)
    ∗ (∃ g, ⌜Answered m d L (16 * t) g⌝ ∗ (wV).view.loc me ↦{fullShare} g)
    ∗ semVal (cBcell d (cV L) (jV L)) 0
    ∗ ∃ W', ⌜∀ p ∈ W', p ∈ W ∨ p.2 = none⌝ ∗ owes me O W')

set_option maxHeartbeats 4000000 in
/-- One trip of the outer loop. -/
theorem trip (O : CellTallies nD τ sig (HIx 1)) (W : Waits sig (HIx 1)) (t : Fin k0_t1_loop.trips) :
    outInv m d L O W t.val ⟨⟩
      ⊢ wp frame (wpE (defs₀ (F := F)) 𝒱₀ me none) Set.univ
          (k0_t1_body L xV (Memref.isWhole_whole _) lV (Memref.isWhole_whole _) oV (Memref.isWhole_whole _)
            sV (Memref.isWhole_whole _) tV (Memref.isWhole_whole _) wV (Memref.isWhole_whole _) cc0_scoped0 cc0_scoped1 cc0_scoped2 lanes t ⟨⟩)
          fun _ => outInv m d L O W (t.val + 1) ⟨⟩ := by
  unfold outInv k0_t1_body
  iintro ⟨Hmw, Hx, Hs, ⟨%f, Ht⟩, ⟨%g, %hg, Hw⟩, Hsem, %W', %hW', HO⟩
  sl_exec
  have hf : ∀ (y : S16.Idx) (n : ℕ), (tV).view.writes (Elt F) f [⟨Rect.unit (s := S16x257) ![0, 0] S16x256.size inb_S16x257_S16x256_0_0, trip.sl.dma0 m d L t⟩] (spot y n)
      = row (m (xLoc d)) (outRow L (16 * t.val + (y 0).val) (trip_lt t y)) n := landed d L (m (xLoc d)) f t
  generalize hf1 : (tV).view.writes (Elt F) f [⟨Rect.unit (s := S16x257) ![0, 0] S16x256.size inb_S16x257_S16x256_0_0, trip.sl.dma0 m d L t⟩] = f1 at hf
  clear hf1
  sl_for (inInv d L f1) $$ [Ht]
  case region =>
    intro k s
    obtain ⟨b, i⟩ := s
    have hk : k.val < 256 := Nat.lt_of_lt_of_eq k.isLt t2_trips
    unfold inInv trip.sl.prog.body_1 k0_t2_body
    iintro ⟨Ht, %hs⟩
    have hc : k0_chk1 lanes (column k.val) := chk1 hk
    sl_exec
    ihave Ht' := (Entails.of_eq (pts_tV_access (F := F) d L f1).symm) $$ Ht
    iapply (SparseCore.wp_vectorLoadIdx 𝒱₀ me none Set.univ (base := tV) (S := Finset.univ) (q := fullShare) (Finset.subset_univ _)) $$ Ht'; iintro Ht'
    ihave Ht := (Entails.of_eq (pts_tV_access (F := F) d L f1)) $$ Ht'
    sl_step
    isplitl [Ht]; · iexact Ht
    ipureintro
    rw [Memref.read_access_whole (Elt F) cc0_scratch1 f1]
    exact scanned_succ hk hs (chk1 hk)
  · unfold inInv
    isplitl [Ht]; · iexact Ht
    ipureintro; exact scanned_zero f1
  iintro %s HI
  obtain ⟨b, i⟩ := s
  unfold inInv trip.sl.prog.cont_1
  icases HI with ⟨Ht, %hs⟩
  have hs : Scanned f1 256 (b, i) := hs
  have hc : k0_chk2 i := chk2 hs
  sl_exec
  ihave Hs' := (Entails.of_eq (pts_sV_access (F := F) d L (m (lLoc d))).symm) $$ Hs
  iapply (SparseCore.wp_vectorLoadIdx 𝒱₀ me none Set.univ (base := sV) (S := Finset.univ) (q := fullShare) (Finset.subset_univ _)) $$ Hs'; iintro Hs'
  ihave Hs := (Entails.of_eq (pts_sV_access (F := F) d L (m (lLoc d)))) $$ Hs'
  sl_exec
  sl_step
  iframe Hmw; iframe Hx; iframe Hs; iframe Hsem
  isplitl [Ht]; · iexists f1; iexact Ht
  isplitl [Hw]
  · iexists _
    isplitr [Hw]
    swap; · iexact Hw
    ipureintro
    refine answered_succ m d L t hg _ fun y => ?_
    rw [Memref.read_access_whole (Elt F) cc0_scratch0 (m (lLoc d))]
    exact looked_up m d L t hf hs y hc
  iexists _
  isplitr [HO]
  swap; · iexact HO
  ipureintro
  intro p hp
  rcases Finset.mem_insert.mp hp with h | h
  · exact .inr (h ▸ rfl)
  · exact hW' p h

set_option maxHeartbeats 4000000 in
/-- One task: from its shares of the arguments and its block of the result to the block answered. -/
theorem tile_body (hF : (K (F := F)).Facts) (O : CellTallies nD τ sig (HIx 1)) (W : Waits sig (HIx 1)) (hO : ∀ g, O g none = 0) :
    iprop(levAts (K (F := F)).L (K (F := F)).lev ∗ emp
        ∗ (xSh m d (wL L) ∗ lSh m d (wL L) ∗ oBl d (wL L) (m (oLoc d)))
        ∗ scopedBufs me ∗ scopedSems0 me ∗ owes me O W)
      ⊢ wp frame (wpE (defs₀ (F := F)) 𝒱₀ me none) Set.univ
          (cc0_wtac_sc L xV (Memref.isWhole_whole _) lV (Memref.isWhole_whole _) oV (Memref.isWhole_whole _)
            sV (Memref.isWhole_whole _) tV (Memref.isWhole_whole _) wV (Memref.isWhole_whole _) cc0_scoped0 cc0_scoped1 cc0_scoped2)
          fun _ => iprop((xSh m d (wL L) ∗ lSh m d (wL L) ∗ oBl d (wL L) (goal m d))
            ∗ scopedBufs me ∗ scopedSems0 me
            ∗ ∃ W', ⌜∀ p ∈ W', p ∈ W ∨ p.2 = none⌝ ∗ owes me O W') := by
  simp only [cc0_wtac_sc_eq_skeleton]; unfold cc0_wtac_sc_skel
  rw [(K (F := F)).scopedBufs_V hF d (cV L) (jV L), SparseCore.Cfg.scopedSems0_V (Val := Elt F) d (cV L) (jV L), ownSems0_V, ownBufs_V]
  iintro ⟨#Hlv, -, ⟨Hx, Hl, Ho⟩, ⟨⟨%fs, Hs⟩, ⟨%ft, Ht⟩, ⟨%fw, Hw⟩, Hbufs⟩, ⟨HsemA, HsemB, HsemC, Hsems⟩, HO⟩
  ihave Hmw := (show levAts (K (F := F)).L (K (F := F)).lev ⊢ Transfers.MayWaits me (default : HIx 1) O from
    (K (F := F)).mayWaits_none (thr := me) hO) $$ Hlv
  ihave Hx := (show xSh m d (wL L) ⊢ (xV).view.loc me ↦{rd (wL L)} m (xLoc d) from .rfl) $$ Hx
  ihave Hl := (show lSh m d (wL L) ⊢ (lV).view.loc me ↦{rd (wL L)} m (lLoc d) from .rfl) $$ Hl
  ihave Ho := (Entails.of_eq (pts_oBlkK (F := F) d L _).symm) $$ Ho
  ihave Hs := (show ((me).loc cc0_scratch0 ↦{fullShare} fs : sProp 𝕄) ⊢ (sV).view.loc me ↦{fullShare} fs from .rfl) $$ Hs
  ihave Ht := (show ((me).loc cc0_scratch1 ↦{fullShare} ft : sProp 𝕄) ⊢ (tV).view.loc me ↦{fullShare} ft from .rfl) $$ Ht
  ihave Hw := (show ((me).loc cc0_scratch2 ↦{fullShare} fw : sProp 𝕄) ⊢ (wV).view.loc me ↦{fullShare} fw from .rfl) $$ Hw
  sl_exec
  ihave Hs := (show ((sV).view.loc me ↦{fullShare} View.write (Elt F) (sV).view fs (tile_body.sl.dma0 m d) Finset.univ : sProp 𝕄)
      ⊢ (sV).view.loc me ↦{fullShare} m (lLoc d) from
    Entails.of_eq (congrArg _ (View.write_whole_univ cc0_scratch0 fs (m (lLoc d))))) $$ Hs
  sl_for (outInv m d L O (insert (SemLoc.dma ⟨0, by decide⟩, default) W)) $$ [Hmw Hx Hs Ht Hw HsemB HO]
  case region =>
    intro t s
    unfold tile_body.sl.prog.body_1
    exact trip m d L O _ t
  · unfold outInv
    iframe Hmw; iframe Hx; iframe Hs; iframe HsemB
    isplitl [Ht]; · iexists ft; iexact Ht
    isplitl [Hw]
    · iexists fw
      isplitr [Hw]
      · ipureintro; exact fun j h => absurd h (Nat.not_lt_zero _)
      · iexact Hw
    iexists _
    isplitr [HO]
    swap; · iexact HO
    ipureintro; exact fun p hp => .inl hp
  iintro %s HI
  unfold outInv tile_body.sl.prog.cont_1
  icases HI with ⟨Hmw, Hx, Hs, ⟨%f, Ht⟩, ⟨%g, %hg, Hw⟩, HsemB, %W', %hW', HO⟩
  have hg : Answered m d L 512 g := hg
  sl_exec
  sl_step
  ihave Ho := (show ((oBlkK L).view.loc me ↦[(oBlkK L).view.set]{fullShare}
      (oBlkK L).view.writes (Elt F) (m (oLoc d)) [⟨Rect.whole S512, tile_body.sl.dma0_1 g⟩] : sProp 𝕄) ⊢ oBl d (wL L) (goal m d) from
    block_done m d L hg) $$ Ho
  isplitl [Hx Hl Ho]
  · iframe Hx; iframe Hl; iexact Ho
  isplitl [Hs Ht Hw Hbufs]
  · isplitl [Hs]; · iexists _; iexact Hs
    isplitl [Ht]; · iexists _; iexact Ht
    isplitl [Hw]; · iexists _; iexact Hw
    iexact Hbufs
  isplitl [HsemA HsemB HsemC Hsems]
  · iframe HsemA; iframe HsemB; iframe HsemC; iexact Hsems
  iexists _
  isplitr [HO]
  swap; · iexact HO
  ipureintro
  intro p hp
  rcases Finset.mem_insert.mp hp with h | h
  · exact .inr (h ▸ rfl)
  · rcases hW' p h with h | h
    · rcases Finset.mem_insert.mp h with h | h
      · exact .inr (h ▸ rfl)
      · exact .inl h
    · exact .inr h

end Tile

end Cert.Proof.KernelIdealTile

end
-- ==== Proof.KernelIdealRun.lean ====
/-
  The kernel's run from the launch of its one SparseCore call: the distance table and the labels dealt to the thirty-two
  tasks by shares, the result by blocks; every task's obligation is `KernelIdealTile.tile_body`. At the end the arguments are
  unchanged, the result is `answer` of them, and every semaphore counter reads zero.
-/
module

public import proofs.«01_k».proof.Proof.KernelIdealTile

@[expose] public section

noncomputable section

namespace Cert.Proof.KernelIdealRun

open Cert.KernelIdeal Cert.KernelIdeal.Gen

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Cert.Proof.Scan Cert.Proof.KernelIdealTile

variable {F : FTy → Type}

local notation "𝕄" => MT nD τ sig (HIx 1) (Elt F) ℕ UU ℕ

/-- The program's semaphores are kept apart as the launch needs. -/
theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-- The call runs on two SparseCores. -/
theorem nCore_zero : (K (F := F)).nCore 0 = 2 := rfl
/-- The call runs on sixteen subcores of each. -/
theorem nSub_zero : (K (F := F)).nSub 0 = 16 := rfl

variable [FloatOps F] (m : (ℓ : Loc nD τ sig) → Buf (Elt F) ℓ) (ρ : Dev nD → PrngReg)

/-! ## What the call hands out -/

/-- A task's part: its shares of the distance table and of the labels, its block of the result at `f`. -/
abbrev part (d : Dev nD) (f : Buf (Elt F) (oLoc d)) (w : Fin 32) : sProp 𝕄 := iprop(xSh m d w ∗ lSh m d w ∗ oBl d w f)

/-- The part of the task that SparseCore `c`'s subcore `i` runs. -/
abbrev partAt (d : Dev nD) (f : Buf (Elt F) (oLoc d)) (c : Fin ((K (F := F)).nCore 0)) (i : Fin ((K (F := F)).nSub 0)) : sProp 𝕄 :=
  part m d f (task (Fin.cast nCore_zero c) (Fin.cast nSub_zero i))

/-- Each SparseCore takes its sixteen tasks' parts, each task its part, the result's blocks as the launch left them; they
    come back with the blocks answered. -/
def P : (K (F := F)).Pay (nD := nD) (Val := Elt F) (Name := ℕ) (U := UU) where
  st := fun q d c => match q with | 0 => bigSep Finset.univ fun i => partAt m d (m (oLoc d)) c i
  dn := fun q d c => match q with | 0 => bigSep Finset.univ fun i => partAt m d (goal m d) c i
  go := fun q d c i => match q with | 0 => partAt m d (m (oLoc d)) c i
  td := fun q d c i => match q with | 0 => partAt m d (goal m d) c i
  x := fun _ _ => iprop(emp)

/-- The parts that the call hands over can be kept by the handshakes. -/
instance P_storable : (P (F := F) m).IsStorable where
  st q d c := match q with
    | 0 => (inferInstance : BI.Storable (upEmb : UEmb _ 𝕄) (bigSep Finset.univ fun i => partAt m d (m (oLoc d)) c i))
  dn q d c := match q with
    | 0 => (inferInstance : BI.Storable (upEmb : UEmb _ 𝕄) (bigSep Finset.univ fun i => partAt m d (goal m d) c i))
  go q d c i := match q with
    | 0 => (inferInstance : BI.Storable (upEmb : UEmb _ 𝕄) (partAt m d (m (oLoc d)) c i))
  td q d c i := match q with
    | 0 => (inferInstance : BI.Storable (upEmb : UEmb _ 𝕄) (partAt m d (goal m d) c i))

/-! ## The tasks' obligation -/

/-- A task's coordinates. -/
def coordsV (c : Fin (grid0.bound 0)) (s : Fin (grid0.bound 1)) : grid0.Coords :=
  fun | 0 => c | 1 => s | ⟨_ + 2, h⟩ => absurd h (Nat.not_lt.2 (Nat.le_add_left _ _))

/-- What a subcore runs is the kernel's body on the arrays and the scratch buffers. -/
theorem defs₀_vector (c : Fin τ.nSC) (s : Fin τ.nSub) :
    defs₀ (F := F) (.scVector c s) 0 ()
      = SparseCore.onTile hcore0 hsub0 (fun c s => cc0_wtac_sc (coordsV c s)
          (Memref.whole main_arg0_scv) (Memref.isWhole_whole _) (Memref.whole main_arg1_scv) (Memref.isWhole_whole _) (Memref.whole main_v0_scv) (Memref.isWhole_whole _)
          (Memref.whole cc0_scratch0) (Memref.isWhole_whole _) (Memref.whole cc0_scratch1) (Memref.isWhole_whole _) (Memref.whole cc0_scratch2) (Memref.isWhole_whole _)
          cc0_scoped0 cc0_scoped1 cc0_scoped2) ⟨⟩ c s := rfl

omit [FloatOps F] in
/-- A task that waits on nothing but its own transfers waits on nothing the launch forbids. -/
theorem obl_post {thr : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  iframe HA; iframe HB; iframe HC
  iexists W'; isplitr
  · ipureintro; exact fun p hp => (hW' p hp).imp_right Or.inl
  · iexact HO

set_option maxRecDepth 16384 in
/-- Every task meets what the launch asks of it. -/
theorem tileObl (hF : (K (F := F)).Facts) : (K (F := F)).TileObl (D (F := F)) 𝒱 (P m) v₀ 0 := by
  intro d c i O W hO _ _
  simp only [show (P m).ox = fun _ _ => 0 from rfl, add_zero]
  have hci : ((K (F := F)).core 0 c).val < grid0.bound 0 ∧ ((K (F := F)).sub 0 i).val < grid0.bound 1 := ⟨c.isLt, i.isLt⟩
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  rw [defs₀_vector]; simp only [SparseCore.onTile, hci, and_self, ↓reduceDIte]
  exact (tile_body m d (coordsV ⟨_, hci.1⟩ ⟨_, hci.2⟩) hF O W hO).trans (wp_mono frame _ _ fun _ => obl_post)

/-- A SparseCore's part is its tasks' parts, before and after. -/
theorem vecSplit : (K (F := F)).VecSplit' (P m) 0 := by
  intro d c
  show (bigSep Finset.univ fun i => partAt m d (m (oLoc d)) c i : sProp 𝕄) ⊢ |={Set.univ}=> iprop(
      (bigSep Finset.univ fun i => partAt m d (m (oLoc d)) c i)
      ∗ ((bigSep Finset.univ fun i => partAt m d (goal m d) c i) -∗ bigSep Finset.univ fun i => partAt m d (goal m d) c i))
  iintro H; imodintro
  isplitl [H]; · iexact H
  iintro H; iexact H

/-! ## The arrays in parts -/

omit [FloatOps F] in
/-- A block's places in the result are the places of its box. -/
theorem oSet_eq (w : Fin 32) : oSet w = (oBlock w).set := by
  show ((View.whole (main_v0_scv : Ref sig .scVector)).slice (oBlock w)).set = _
  rw [View.set_slice]; exact Finset.map_refl
omit [FloatOps F] in
/-- Two blocks share no place. -/
theorem oSets_disjoint : ∀ i ∈ (Finset.univ : Finset (Fin 32)), ∀ j ∈ (Finset.univ : Finset (Fin 32)), i ≠ j → Disjoint (oSet i) (oSet j) :=
  fun i _ j _ h => by rw [oSet_eq, oSet_eq]; exact Rect.part_disjoint odiv h
omit [FloatOps F] in
/-- The blocks are the whole result. -/
theorem oSets_cover : (Finset.univ : Finset (Fin 32)).biUnion oSet = Finset.univ :=
  (Finset.biUnion_congr rfl fun i _ => oSet_eq i).trans (Rect.biUnion_part odiv)
omit [FloatOps F] in
/-- The whole result is its thirty-two blocks. -/
theorem oPts_blocks (d : Dev nD) (f : Buf (Elt F) (oLoc d)) :
    (oLoc d ↦{fullShare} f : sProp 𝕄) = bigSep Finset.univ fun w : Fin 32 => oBl d w f := by
  rw [← pointsTo_biUnion Finset.univ (ℓ := oLoc d) oSet oSets_disjoint, oSets_cover]

omit [FloatOps F] in
/-- The tasks counted by SparseCore and subcore. -/
theorem bigSep_tasks (Φ : Fin 32 → sProp 𝕄) :
    (bigSep Finset.univ fun c : Fin ((K (F := F)).nCore 0) => bigSep Finset.univ fun i : Fin ((K (F := F)).nSub 0) =>
        Φ (task (Fin.cast nCore_zero c) (Fin.cast nSub_zero i)))
      = bigSep Finset.univ Φ := by
  rw [bigSep_univ_equiv (finProdFinEquiv : Fin 2 × Fin 16 ≃ Fin 32) Φ, bigSep_univ_prod]
  exact bigSep_congr fun c _ => bigSep_congr fun i _ => congrArg Φ (Fin.ext (Nat.add_comm _ _))

/-- What stays behind of an argument when each task has its share of it. -/
abbrev rest (ℓ : Loc nD τ sig) : sProp 𝕄 := ℓ ↦{Transfers.shareDrop fullShare 32} m ℓ

/-- The three arrays, the result at `f`, are the tasks' parts and what stays behind of the arguments. -/
theorem arrays_parts (d : Dev nD) (f : Buf (Elt F) (oLoc d)) :
    iprop((xLoc d ↦{fullShare} m (xLoc d)) ∗ (lLoc d ↦{fullShare} m (lLoc d)) ∗ oLoc d ↦{fullShare} f)
      ⊢ iprop((bigSep Finset.univ fun c => bigSep Finset.univ fun i => partAt m d f c i) ∗ rest m (xLoc d) ∗ rest m (lLoc d)) := by
  rw [bigSep_tasks (part m d f), bigSep_sep', bigSep_sep', oPts_blocks]
  iintro ⟨Hx, Hl, Ho⟩
  ihave Hx := (Transfers.pointsTo_toks_split fullShare 32) $$ Hx
  ihave Hl := (Transfers.pointsTo_toks_split fullShare 32) $$ Hl
  icases Hx with ⟨Hxr, Hx⟩
  icases Hl with ⟨Hlr, Hl⟩
  isplitl [Hx Hl Ho]
  · isplitl [Hx]; · iexact Hx
    isplitl [Hl]; · iexact Hl
    iexact Ho
  isplitl [Hxr]; · iexact Hxr
  iexact Hlr

/-- And back. -/
theorem parts_arrays (d : Dev nD) (f : Buf (Elt F) (oLoc d)) :
    iprop((bigSep Finset.univ fun c => bigSep Finset.univ fun i => partAt m d f c i) ∗ rest m (xLoc d) ∗ rest m (lLoc d))
      ⊢ iprop((xLoc d ↦{fullShare} m (xLoc d)) ∗ (lLoc d ↦{fullShare} m (lLoc d)) ∗ oLoc d ↦{fullShare} f) := by
  rw [bigSep_tasks (part m d f), bigSep_sep', bigSep_sep', oPts_blocks]
  iintro ⟨⟨Hx, Hl, Ho⟩, Hxr, Hlr⟩
  isplitl [Hx Hxr]
  · iapply (Transfers.pointsTo_toks_join fullShare 32)
    isplitl [Hxr]; · iexact Hxr
    iexact Hx
  isplitl [Hl Hlr]
  · iapply (Transfers.pointsTo_toks_join fullShare 32)
    isplitl [Hlr]; · iexact Hlr
    iexact Hl
  iexact Ho

/-! ## The launch element of the ghost state -/

/-- The handshakes' rounds at their start. -/
def u₀ : UU := (initOf (K (F := F)).hsCells (K (F := F)).hsToks, 1)

omit [FloatOps F] in
/-- Nothing, many times over, is nothing. -/
theorem bigSep_emp' {I : Type} (s : Finset I) : (bigSep s fun _ => iprop(emp)) = (iprop(emp) : sProp 𝕄) := bigSep_emp_const s

/-- The launch's ghost state is the handshakes' and nothing else. -/
theorem hu₀ : (ownU (u₀ (F := F)) : sProp 𝕄)
    ⊢ |={Set.univ}=> iprop(BI.own (EH (initOf (K (F := F)).hsCells (K (F := F)).hsToks)) ∗ (bigSep Finset.univ fun _ : Dev nD => iprop(emp))
        ∗ bigSep Finset.univ fun thr : Thread nD τ => bigSep Finset.univ fun q : Fin 1 => (P m).x q thr) := by
  unfold u₀
  iintro Hu
  ihave H := (ownU_pair (initOf (K (F := F)).hsCells (K (F := F)).hsToks) (1 : Counters)) $$ Hu
  icases H with ⟨HH, -⟩
  imodintro
  isplitl [HH]; · iexact HH
  isplitr; · rw [bigSep_emp']; iempintro
  rw [show (bigSep Finset.univ fun thr : Thread nD τ => bigSep Finset.univ fun q : Fin 1 => (P (F := F) m).x q thr) = bigSep Finset.univ fun _ => iprop(emp) from
    bigSep_congr fun _ _ => bigSep_univ_of_subsingleton (0 : Fin 1), bigSep_emp']
  iempintro

/-! ## @main on the TensorCore -/

omit [FloatOps F] in
/-- The TensorCore's arrays are the two arguments and the result. -/
theorem unscopedBufs_eq (d : Dev nD) (W : (b : Ref sig .tc) → Buf (Elt F) ((d.tc : Thread nD τ).loc b)) :
    (unscopedBufs d W : sProp 𝕄) = iprop((xLoc d ↦{fullShare} W main_arg0) ∗ (lLoc d ↦{fullShare} W main_arg1) ∗ oLoc d ↦{fullShare} W main_v0) := by
  unfold unscopedBufs
  rw [show (Finset.univ.filter fun b : Ref sig .tc => ¬ b.isScoped) = {main_arg0, main_arg1, main_v0} by decide,
    SparseCore.bigSep_insert' (by decide), SparseCore.bigSep_insert' (by decide), bigSep_singleton]

/-- What the run ends with: the arguments as the launch left them, the result answered. -/
abbrev FIN (d : Dev nD) : sProp 𝕄 :=
  iprop((xLoc d ↦{fullShare} m (xLoc d)) ∗ (lLoc d ↦{fullShare} m (lLoc d)) ∗ oLoc d ↦{fullShare} goal m d)

/-- @main on device `d`'s TensorCore: the one call, from the three arrays. -/
theorem hmain (κ : GSem nD τ sig → ℕ) (d : Dev nD) :
    iprop((K (F := F)).ctx EH (P m) κ ∗ (K (F := F)).tcSt EH d 0 ∗ (K (F := F)).tcRes m ρ d ∗ emp)
      ⊢ wp frame (wpE ((K (F := F)).defs (D (F := F))) 𝒱 (SparseCore.T d) none) Set.univ (main d)
          fun _ => iprop((K (F := F)).tcSt EH d 1 ∗ FIN m d ∗ (K (F := F)).tcEnd d) := by
  unfold SparseCore.Cfg.tcRes SparseCore.Cfg.tcEnd
  rw [unscopedBufs_eq]
  simp only [main, wp_bind, wp_pure]
  iintro ⟨#Hctx, Hst, ⟨Hb, Hall, Hts, -⟩, -⟩
  ihave Hall := (show iprop((xLoc d ↦{fullShare} m (xLoc d)) ∗ (lLoc d ↦{fullShare} m (lLoc d)) ∗ oLoc d ↦{fullShare} m (oLoc d)) ⊢ _ from
    arrays_parts m d (m (oLoc d))) $$ Hall
  icases Hall with ⟨Hp, Hxr, Hlr⟩
  iapply ((K (F := F)).wp_run (D (F := F)) 𝒱 (EH := EH) (P := P m) κ d 0) $$ [Hst Hp Hxr Hlr Hb Hts]
  isplitr; · iexact Hctx
  isplitl [Hst]; · iexact Hst
  isplitl [Hp]; · iexact Hp
  iintro ⟨Hst, Hdn⟩
  imodintro
  isplitl [Hst]; · iexact Hst
  isplitr [Hb Hts]
  · iapply (parts_arrays m d (goal m d))
    isplitl [Hdn]; · iexact Hdn
    isplitl [Hxr]; · iexact Hxr
    iexact Hlr
  isplitl [Hb] <;> iassumption

/-- What the final memory holds on device `d`. -/
def fq (d : Dev nD) (s' : Phys nD τ sig (Elt F)) : Prop :=
  s'.mem.mem (xLoc d) = m (xLoc d) ∧ s'.mem.mem (lLoc d) = m (lLoc d) ∧ s'.mem.mem (oLoc d) = goal m d

omit [FloatOps F] in
/-- An array held whole is what the memory holds. -/
theorem held_agree {ℓ : Loc nD τ sig} (f : Buf (Elt F) ℓ) (s' : Phys nD τ sig (Elt F)) (A : sProp 𝕄) :
    iprop(((ℓ ↦{fullShare} f) ∗ A) ∗ SI s') ⊢ iprop(⌜s'.mem.mem ℓ = f⌝ ∗ A ∗ SI s') := by
  iintro ⟨⟨Hx, HA⟩, HSI⟩
  ihave H := (persistent_entails_right (SI_pointsTo_agree (st := s') (ℓ := ℓ) (I := Finset.univ) (q := fullShare) (f := f))) $$ [HSI Hx]
  · isplitl [HSI] <;> iassumption
  icases H with ⟨%h, HSI, -⟩
  isplitr
  · ipureintro; exact funext fun i => h i (Finset.mem_univ i)
  isplitl [HA] <;> iassumption

set_option maxRecDepth 16384 in
/-- What the run ends with is what the final memory holds. -/
theorem hfin (d : Dev nD) (s' : Phys nD τ sig (Elt F)) : iprop(FIN m d ∗ SI s') ⊢ (⌜fq m d s'⌝ : sProp 𝕄) := by
  iintro ⟨⟨Hx, Hl, Ho⟩, HSI⟩
  ihave H := (held_agree (m (xLoc d)) s' iprop((lLoc d ↦{fullShare} m (lLoc d)) ∗ oLoc d ↦{fullShare} goal m d)) $$ [Hx Hl Ho HSI]
  · isplitr [HSI]
    · isplitl [Hx]; · iexact Hx
      isplitl [Hl] <;> iassumption
    · iexact HSI
  icases H with ⟨%h1, H⟩
  ihave H := (held_agree (m (lLoc d)) s' iprop(oLoc d ↦{fullShare} goal m d)) $$ H
  icases H with ⟨%h2, Ho, HSI⟩
  ihave H := (held_agree (goal m d) s' iprop(emp)) $$ [Ho HSI]
  · isplitr [HSI]
    · isplitl [Ho]; · iexact Ho
      iempintro
    · iexact HSI
  icases H with ⟨%h3, -⟩
  ipureintro; exact ⟨h1, h2, h3⟩

/-! ## The program's run -/

/-- What the run establishes: on every device the arguments unchanged and the result answered; every counter zero. -/
def QC : PUnit × MemSt nD τ sig (Elt F) → Prop := fun r =>
  (∀ c : Dev nD, r.2.mem (xLoc c) = m (xLoc c) ∧ r.2.mem (lLoc c) = m (lLoc c) ∧ r.2.mem (oLoc c) = goal m c) ∧ r.2.sem = fun _ => 0

/-- The kernel's run ends with the result answered, the arguments unchanged and every counter at zero. -/
theorem run_main [∀ e, Nonempty (Elt F e)] :
    θ_run (Cert.KernelIdeal.defs (F := F)) (Cert.KernelIdeal.threads (F := F)) ⟨m, fun _ => 0, ρ⟩ (QC m) :=
  SparseCore.Cfg.θ_run_sc_quiescent (K := K (F := F)) (D := D (F := F)) (𝒱 := 𝒱) (EH := EH) (P := P m) (A := ∅) facts v₀
    (fun q hq => match q with | 0 => nomatch hq)
    (fun q _ => match q with | 0 => tileObl m facts)
    (fun q _ => match q with | 0 => SparseCore.Cfg.VecSplit.of_plain (vecSplit m))
    m ρ main (fun _ => iprop(emp)) (FIN m) (u₀ (F := F)) (sep_elim_left.trans (hu₀ m)) (hmain m ρ) (fq m) (hfin m) (QC m) (fun _ h hz => ⟨h, hz⟩)

/-- The run with the result's value dropped. -/
theorem quiescent [∀ e, Nonempty (Elt F e)] :
    θ_run (Cert.KernelIdeal.defs (F := F)) (Cert.KernelIdeal.threads (F := F)) ⟨m, fun _ => 0, ρ⟩
      (fun r => (∀ c : Dev nD, r.2.mem (xLoc c) = m (xLoc c) ∧ r.2.mem (lLoc c) = m (lLoc c)) ∧ r.2.sem = fun _ => 0) :=
  (θ_run Cert.KernelIdeal.defs _ _).mono (fun _ h => ⟨fun c => ⟨(h.1 c).1, (h.1 c).2.1⟩, h.2⟩) (run_main m ρ)

end Cert.Proof.KernelIdealRun

end
-- ==== Proof.ReferenceValue.lean ====
/-
  What the reference computes, over the extended reals, is the scan's answer. Its argmin is one fold over each row's
  (value, column) pairs; on the columns in order this fold goes through exactly the pairs of the scan (`folded`). Its
  take reads the labels at the winners, which are columns, so neither the wrap of a negative index nor the fill of an
  index out of range happens (`taken_eq`).
-/
module

public import proofs.«01_k».proof.ReferenceIdeal
public import proofs.«01_k».proof.Proof.Scan
public import proofs.«01_k».proof.Proof.Gen.ReferenceIdeal
public import Idealize.ShloMosaic.Lib.ReduceAll
public import Idealize.ShloMosaic.Lib.WordCmp
public import Idealize.ShloMosaic.PureOps.Ideal.Laws

@[expose] public section

noncomputable section

namespace Cert.Proof.ReferenceValue

open Idealize.ShloMosaic
open Cert.ReferenceIdeal Cert.ReferenceIdeal.Gen
open Cert.Proof.Scan

/-! ## The argmin -/

/-- The reference's argmin of a table: the index part of its reduction over the columns. -/
def found (x : S16384x256.Idx → Ideal .f32) : S16384.Idx → BitVec 32 := fun j =>
  (Host.argReduce reducer_argmin_f32_i32 x (iotaInDim S16384x256 32 1) (constant S_ .f32 0x7F800000#32)
    (constantI S_ 32 0#32) reducesTo_S16384x256_S16384_d1 h_S_ j).2

/-- A table without its columns keeps an axis, -/
theorem kept_pos (R C : ℕ) : 0 < ((⟨2, ![R, C]⟩ : Shape).kept [1]).length :=
  (show 0 < ((List.finRange 2).filter fun a => a ∉ [(1 : Fin 2)]).length by decide)

/-- and it is the rows'. -/
theorem kept_zero (R C : ℕ) : ((⟨2, ![R, C]⟩ : Shape).kept [1])[0]'(kept_pos R C) = 0 :=
  (show ((List.finRange 2).filter fun a => a ∉ [(1 : Fin 2)])[0]'(kept_pos 0 0) = 0 by decide)

section Row

variable {R C : ℕ} (h : (⟨2, ![R, C]⟩ : Shape).ReducesTo [1] ⟨1, ![R]⟩) (j : (⟨1, ![R]⟩ : Shape).Idx)
  (p : Fin C → (⟨2, ![R, C]⟩ : Shape).Idx) (h0 : ∀ k, (p k 0).val = (j 0).val) (h1 : ∀ k, (p k 1).val = k.val)

include h0 h1

/-- The places of a table that a reduction over its columns sends to row `j`, in row-major order, are the row's places
    `p` in the order of their columns. -/
theorem fiber_eq :
    ((List.finRange (⟨2, ![R, C]⟩ : Shape).numel).filter fun n => h.drop ((⟨2, ![R, C]⟩ : Shape).rowMajor.symm n) = j)
      = (List.finRange C).map fun k => (⟨2, ![R, C]⟩ : Shape).rowMajor (p k) := by
  refine List.SortedLT.eq_of_mem_iff ?_ ?_ ?_
  · exact ((List.sortedLT_finRange _).pairwise.filter _).sortedLT
  · refine List.Pairwise.sortedLT (List.pairwise_map.2 ((List.sortedLT_finRange C).pairwise.imp ?_))
    intro a b hab
    rw [Fin.lt_def, Shape.rowMajor_val_two, Shape.rowMajor_val_two, h0, h0, h1, h1]
    exact Nat.add_lt_add_left hab _
  · intro n
    obtain ⟨i, rfl⟩ := (⟨2, ![R, C]⟩ : Shape).rowMajor.surjective n
    rw [List.mem_filter, List.mem_map, Equiv.symm_apply_apply, decide_eq_true_iff]
    constructor
    · rintro ⟨-, e⟩
      have hi : (i 0).val = (j 0).val := by rw [← e]; exact (h.drop_apply_val_of_eq i 0 0 (kept_pos R C) (kept_zero R C)).symm
      refine ⟨i 1, List.mem_finRange _, congrArg _ (funext fun a => Fin.ext ?_)⟩
      match a with
      | 0 => exact (h0 _).trans hi.symm
      | 1 => exact h1 _
    · rintro ⟨k, -, e⟩
      obtain rfl := (Equiv.injective _) e
      refine ⟨List.mem_finRange _, funext fun a => ?_⟩
      obtain rfl : a = 0 := Subsingleton.elim _ _
      exact Fin.ext ((h.drop_apply_val_of_eq _ 0 0 (kept_pos R C) (kept_zero R C)).trans (h0 k))

/-- So a two-operand reduction over the columns is, at row `j`, the fold over the row's pairs in the order of their
    columns. -/
theorem reduce_row {α β : Type} {u : Shape} (f : α × β → α × β → α × β) (x : (⟨2, ![R, C]⟩ : Shape).Idx → α)
    (y : (⟨2, ![R, C]⟩ : Shape).Idx → β) (a : u.Idx → α) (b : u.Idx → β) (hu : 0 < u.numel) :
    Host.reduce2 f x y a b h hu j
      = (List.finRange C).foldl (fun q k => f q (x (p k), y (p k))) (a (Shape.Idx.first hu), b (Shape.Idx.first hu)) := by
  rw [Host.reduce2_eq_foldl_fiber, Host.argReduceFiber, fiber_eq h j p h0 h1, List.foldl_map, List.foldl_map]
  simp only [Equiv.symm_apply_apply]

end Row

/-- One step of the reference's fold is one step of the scan, when the column so far comes before the new one or both
    are column 0. -/
theorem reduced (p : Ideal .f32 × BitVec 32) (v : Ideal .f32) (k : ℕ) (hk : k < 256)
    (hp : p.2.toNat < k ∨ (k = 0 ∧ p.2 = 0#32)) :
    reducer_argmin_f32_i32 p (v, BitVec.ofNat 32 k) = step k v p := by
  obtain ⟨a, c⟩ := p
  have slt : IntOp.cmpi .slt c (BitVec.ofNat 32 k) = BitVec.ofBool (decide (c.toNat < k)) := by
    have hk' : (BitVec.ofNat 32 k).toNat = k := by rw [BitVec.toNat_ofNat, Nat.mod_eq_of_lt (by omega)]
    have hc : c.toNat < 256 := by
      rcases hp with h | ⟨-, h⟩
      · exact h.trans hk
      · rw [show c = 0#32 from h]; decide
    rw [WordCmp.cmpi_slt_of_lt (by omega) (by omega), hk']
  unfold reducer_argmin_f32_i32 step
  simp only [Ideal.cmpf_def, Ideal.cmp, slt]
  rcases lt_trichotomy a v with h | h | h
  · by_cases hc : c.toNat < k <;> simp [h, hc, h.not_gt, h.ne, Scalar.select, IntOp.ori, IntOp.andi]
  · subst h
    rcases hp with h | ⟨rfl, h⟩
    · simp [show c.toNat < k from h, Scalar.select, IntOp.ori, IntOp.andi]
    · simp [show c = 0#32 from h, Scalar.select, IntOp.ori, IntOp.andi]
  · simp [h, h.le, h.not_gt, h.ne', Scalar.select, IntOp.ori, IntOp.andi]

/-- The reference's fold over the first `n` columns of a row is the scan after them. -/
theorem folded (r : ℕ → Ideal .f32) (n : ℕ) (hn : n ≤ 256) :
    (List.range n).foldl (fun p k => reducer_argmin_f32_i32 p (r k, BitVec.ofNat 32 k))
      (Scalar.ofBits .f32 0x7F800000#32, 0#32) = sweep r n := by
  induction n with
  | zero => rfl
  | succ n ih =>
    rw [List.range_succ, List.foldl_append, ih (Nat.le_of_succ_le hn)]
    refine reduced _ _ _ hn ?_
    rcases Nat.eq_zero_or_pos n with rfl | h
    · exact .inr ⟨rfl, rfl⟩
    · exact .inl (sweep_lt r n n (by omega) le_rfl h)

/-- What the fold reads at a column of a row: the row's value there, and the column. -/
theorem read_step (x : S16384x256.Idx → Ideal .f32) (j : S16384.Idx) :
    (fun (q : Ideal .f32 × BitVec 32) (k : Fin 256) => reducer_argmin_f32_i32 q
        (x (place (j 0) k.val), iotaInDim S16384x256 32 1 (place (j 0) k.val)))
      = fun q k => reducer_argmin_f32_i32 q (row x (j 0) k.val, BitVec.ofNat 32 k.val) := by
  funext q k
  show reducer_argmin_f32_i32 q (_, BitVec.ofNat 32 (k.val % 256)) = _
  rw [Nat.mod_eq_of_lt k.isLt]
  rfl

/-- The pair that the fold starts from. -/
theorem read_init (i i' : S_.Idx) :
    ((constant S_ .f32 0x7F800000#32 i, constantI S_ 32 0#32 i') : Ideal .f32 × BitVec 32)
      = (Scalar.ofBits .f32 0x7F800000#32, 0#32) := rfl

/-- The reference's reduction at row `j`, on the row's values. -/
theorem reduced_row (x : S16384x256.Idx → Ideal .f32) (j : S16384.Idx) :
    Host.argReduce reducer_argmin_f32_i32 x (iotaInDim S16384x256 32 1) (constant S_ .f32 0x7F800000#32)
        (constantI S_ 32 0#32) reducesTo_S16384x256_S16384_d1 h_S_ j
      = (List.finRange 256).foldl (fun q k => reducer_argmin_f32_i32 q (row x (j 0) k.val, BitVec.ofNat 32 k.val))
          (Scalar.ofBits .f32 0x7F800000#32, 0#32) := by
  rw [Ideal.argReduce_eq_reduce2,
    reduce_row reducesTo_S16384x256_S16384_d1 j (fun k => place (j 0) k.val) (fun _ => rfl)
      (fun k => Nat.mod_eq_of_lt k.isLt), read_step, read_init]

/-- The reference's fold over a whole row is the scan of the row. -/
theorem folded_row (r : ℕ → Ideal .f32) :
    (List.finRange 256).foldl (fun q k => reducer_argmin_f32_i32 q (r k.val, BitVec.ofNat 32 k.val))
        (Scalar.ofBits .f32 0x7F800000#32, 0#32) = sweep r 256 := by
  rw [← folded r 256 le_rfl, ← List.map_coe_finRange_eq_range, List.foldl_map]

/-- The argmin, spelt out as a whole: the two sides are then compared without computing the reduction. -/
theorem found_def : found = fun x j =>
    (Host.argReduce reducer_argmin_f32_i32 x (iotaInDim S16384x256 32 1) (constant S_ .f32 0x7F800000#32)
      (constantI S_ 32 0#32) reducesTo_S16384x256_S16384_d1 h_S_ j).2 := rfl

/-- The winner, spelt out as a whole. -/
theorem winner_def : winner (F := Ideal) = fun x j => (sweep (row x j) 256).2 := rfl

/-- The reference's argmin names each row's winner. -/
theorem found_eq (x : S16384x256.Idx → Ideal .f32) (j : S16384.Idx) : found x j = winner x (j 0) := by
  rw [found_def, winner_def]
  exact congrArg Prod.snd ((reduced_row x j).trans (folded_row _))

/-! ## The take -/

/-- The winners as the reference's gather takes them: a negative one would be moved up by 256. -/
def starts (w : S16384.Idx → BitVec 32) : S16384x1.Idx → BitVec 32 :=
  broadcastInDim S16384x1 ![0] bcast_S16384_S16384x1_0
    (select (cmpi .slt w (broadcastInDim S16384 ![] bcast_S_S16384 (constantI S_ 32 0#32)))
      (addi w (broadcastInDim S16384 ![] bcast_S_S16384 (constantI S_ 32 256#32))) w)

/-- Where the reference's take finds an index in range. -/
def mask (w : S16384.Idx → BitVec 32) : S16384.Idx → BitVec 1 :=
  Host.reduce IntOp.andi
    (andi (cmpi .sge (starts w) (broadcastInDim S16384x1 ![] bcast_S_S16384x1 (constantI S_ 32 0#32)))
      (cmpi .sle (starts w) (broadcastInDim S16384x1 ![0, 1] bcast_S1x1_S16384x1_0_1
        (broadcastInDim S1x1 ![1] bcast_S1_S1x1_1 (constantI S1 32 255#32)))))
    (constantI S_ 1 1#1) reducesTo_S16384x1_S16384_d1 h_S_

/-- The reference's take of the labels `l` at the winners `w`: a gather, and a filling word where an index is out of
    range. -/
def taken (l : S256.Idx → BitVec 32) (w : S16384.Idx → BitVec 32) : S16384.Idx → BitVec 32 :=
  select (mask w)
    (Host.gather gather_S256_S16384x1_S16384_n_0_n_n_0_1_1 l (starts w))
    (broadcastInDim S16384 ![] bcast_S_S16384 (constantI S_ 32 2147483648#32))

/-- Where the broadcast of a row of words to one column reads the row. -/
theorem column_read (w : S16384.Idx → BitVec 32) (i : S16384x1.Idx) (j : S16384.Idx) (hj : (j 0).val = (i 0).val) :
    broadcastInDim S16384x1 ![0] bcast_S16384_S16384x1_0 w i = w j := by
  unfold broadcastInDim
  refine congrArg w (funext fun a => ?_)
  obtain rfl : a = 0 := Subsingleton.elim _ _
  rw [dif_neg (show ¬ S16384.size 0 = 1 by decide)]
  exact Fin.ext hj.symm

/-- A winner that is a column is taken as it stands. -/
theorem starts_eq (w : S16384.Idx → BitVec 32) (hw : ∀ j, (w j).toNat < 256) (i : S16384x1.Idx) (j : S16384.Idx)
    (hj : (j 0).val = (i 0).val) : starts w i = w j := by
  have h : IntOp.cmpi .slt (w j) 0#32 = 0#1 := by
    rw [WordCmp.cmpi_slt_of_lt (by have := hw j; omega) (by decide)]; rfl
  unfold starts
  rw [column_read _ i j hj]
  show Scalar.select (IntOp.cmpi .slt (w j) 0#32) (IntOp.addi (w j) 256#32) (w j) = w j
  rw [h]
  rfl

/-- The row that a place of the one-column table stands in. -/
def rowOf (i : S16384x1.Idx) : S16384.Idx := fun
  | 0 => (⟨(i 0).val, (i 0).isLt⟩ : Fin 16384)
  | ⟨_ + 1, h⟩ => absurd h (Nat.not_lt.2 (Nat.le_add_left _ _))

/-- Every winner is in range, so the reference's mask is set everywhere. -/
theorem mask_eq (w : S16384.Idx → BitVec 32) (hw : ∀ j, (w j).toNat < 256) (j : S16384.Idx) : mask w j = 1#1 := by
  unfold mask
  refine Host.reduce_andi_one _ _ _ _ _ rfl fun i => ?_
  show IntOp.andi (IntOp.cmpi .sge (starts w i) 0#32) (IntOp.cmpi .sle (starts w i) 255#32) = 1#1
  have h := hw (rowOf i)
  rw [starts_eq w hw i (rowOf i) rfl, WordCmp.cmpi_sge_of_lt (by omega) (by decide),
    WordCmp.cmpi_sle_of_lt (by omega) (by decide), decide_eq_true (show (0#32).toNat ≤ (w (rowOf i)).toNat from Nat.zero_le _),
    decide_eq_true (show (w (rowOf i)).toNat ≤ (255#32).toNat from Nat.le_of_lt_succ h)]
  rfl

/-- The reference's gather reads the labels at the winners. -/
theorem gather_eq (l : S256.Idx → BitVec 32) (w : S16384.Idx → BitVec 32) (hw : ∀ j, (w j).toNat < 256) (j : S16384.Idx)
    (q : S256.Idx) (hq : (q 0).val = (w j).toNat) :
    Host.gather gather_S256_S16384x1_S16384_n_0_n_n_0_1_1 l (starts w) j = l q := by
  refine congrArg l (funext fun a => ?_)
  obtain rfl : a = 0 := Subsingleton.elim _ _
  refine Fin.ext ?_
  show GatherDims.start _ j (starts w) 0 + GatherDims.batchCoord _ j 0 + GatherDims.offCoord _ j 0 = _
  rw [GatherDims.batchCoord_eq_zero _ _ _ List.not_mem_nil,
    GatherDims.offCoord_eq_zero _ _ _ fun h => ((GatherDims.mem_sKept _ _).mp h).1 (List.mem_singleton.mpr rfl)]
  unfold GatherDims.start
  rw [dif_pos (show (0 : Fin 1) ∈ gather_S256_S16384x1_S16384_n_0_n_n_0_1_1.startIndexMap from
      List.mem_singleton.mpr rfl), starts_eq w hw _ j rfl, hq, BitVec.toInt_eq_toNat_of_lt (by have := hw j; omega)]
  have := hw j
  show min ((w j).toNat : ℤ).toNat (256 - 1) + 0 + 0 = _
  rw [Int.toNat_natCast]
  omega

/-- The reference's take of the labels at winners that are columns is the labels at them. -/
theorem taken_eq (l : S256.Idx → BitVec 32) (w : S16384.Idx → BitVec 32) (hw : ∀ j, (w j).toNat < 256) (j : S16384.Idx)
    (q : S256.Idx) (hq : (q 0).val = (w j).toNat) : taken l w j = l q := by
  unfold taken select
  rw [mask_eq w hw j, gather_eq l w hw j q hq]
  exact if_pos rfl

/-- The label's place that `answer` reads for the winner `n` is `n`. -/
theorem label_place (n : ℕ) (h : n < 256) :
    ((fun a => Fin.cast (congrArg ![256] (Fin.eq_zero a).symm) (⟨n, h⟩ : Fin 256) : S256.Idx) 0).val = n := rfl

/-- The reference's take of the labels at its argmin is the scan's answer. -/
theorem taken_found (x : S16384x256.Idx → Ideal .f32) (l : S256.Idx → BitVec 32) : taken l (found x) = answer x l := by
  funext j
  have hw (i : S16384.Idx) : (found x i).toNat < 256 := by rw [found_eq]; exact winner_lt x _
  unfold answer
  refine taken_eq l _ hw j _ ((label_place _ _).trans ?_)
  rw [found_eq]

end Cert.Proof.ReferenceValue

end
-- ==== Proof.ReferenceRun.lean ====
module

public import proofs.«01_k».proof.Defs
public import proofs.«01_k».proof.Proof.ReferenceValue
public import proofs.«01_k».proof.Proof.Gen.ReferenceIdeal
public import Idealize.ShloMosaic.Lib.Claim
public import Idealize.ShloMosaic.Lib.Tactic

@[expose] public section

noncomputable section

namespace Cert.Proof.ReferenceRun

open Idealize.ShloMosaic Idealize.SL.Sem
open Cert.ReferenceIdeal Cert.ReferenceIdeal.Gen

/-- The reference ends with its arguments unchanged and, having no semaphore at all, with every counter at zero. -/
theorem quiescent : Cert.quiescent_ReferenceIdeal := by
  intro m g _
  hlo_run
  · exact fun _ => ⟨trivial, trivial⟩
  · exact sem_eq_zero_of_no_sems rfl _

/-- What the reference's result array holds at the end: the labels taken at the argmin; its arguments are unchanged. -/
theorem run_main (m : (ℓ : Loc nD τ sig) → Buf (Elt Ideal) ℓ) (g : Dev nD → PrngReg) :
    θ_run (Cert.ReferenceIdeal.defs (F := Ideal)) (onTc Cert.ReferenceIdeal.main) ⟨m, fun _ => 0, g⟩ fun r =>
      ∀ c : Dev nD, r.2.mem ((c.tc : Thread nD τ).loc main_v1)
          = ReferenceValue.taken (m ((c.tc : Thread nD τ).loc main_arg1))
              (ReferenceValue.found (m ((c.tc : Thread nD τ).loc main_arg0)))
        ∧ r.2.mem ((c.tc : Thread nD τ).loc main_arg0) = m ((c.tc : Thread nD τ).loc main_arg0)
        ∧ r.2.mem ((c.tc : Thread nD τ).loc main_arg1) = m ((c.tc : Thread nD τ).loc main_arg1) := by
  hlo_run
  rw [ReferenceValue.found_def]
  unfold ReferenceValue.taken ReferenceValue.mask ReferenceValue.starts
  simp -implicitDefEqProofs only [StableHlo.TRef.ofBuf_toBuf, StableHlo.TRef.toBuf, StableHlo.TRef.ofBuf, cast_cast,
    cast_eq]

end Cert.Proof.ReferenceRun
-- ==== Proof.lean ====
/- The certificate's claim: the kernel leaves its arguments and every semaphore as they should be, at the machine's floats
   and at the extended reals, as does the reference; and at the extended reals kernel and reference end with the same
   labels. The parts are proved in the modules of Proof/. -/
module

public import proofs.«01_k».proof.Defs
public import proofs.«01_k».proof.Proof.KernelRun
public import proofs.«01_k».proof.Proof.KernelIdealRun
public import proofs.«01_k».proof.Proof.ReferenceRun

@[expose] public section

noncomputable section

namespace Cert.Proof

open Idealize.ShloMosaic Idealize.SL.Sem

/-- From memories that agree on the arguments, kernel and reference both end with the scan's answer. -/
theorem algebraic : Cert.algebraic_KernelIdeal_ReferenceIdeal := by
  intro m g m' g' _ hm
  refine ⟨fun c => KernelIdealTile.goal m c, ?_, ?_⟩
  · exact (θ_run Cert.KernelIdeal.defs _ _).mono
      (fun _ h c => ⟨(h.1 c).2.2, (h.1 c).1, (h.1 c).2.1⟩) (KernelIdealRun.run_main m g)
  · refine (θ_run Cert.ReferenceIdeal.defs _ _).mono (fun _ h c => ⟨?_, (h c).2⟩) (ReferenceRun.run_main m' g')
    rw [(h c).1, (hm c).1, (hm c).2]
    exact ReferenceValue.taken_found _ _

/-- The certificate's claim. -/
theorem claim : Cert.Claim :=
  ⟨Cert.Kernel.Gen.facts, Cert.KernelIdeal.Gen.facts, Cert.ReferenceIdeal.Gen.facts,
    fun m ρ _ => KernelRun.quiescent m ρ, fun m ρ _ => KernelIdealRun.quiescent m ρ, ReferenceRun.quiescent, trivial,
    algebraic⟩

end Cert.Proof

end
